-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x256x32x32 : Shape := ⟨4, ![8, 256, 32, 32]⟩
abbrev S60x256 : Shape := ⟨2, ![60, 256]⟩
abbrev S8x512 : Shape := ⟨2, ![8, 512]⟩
abbrev S512x1024 : Shape := ⟨2, ![512, 1024]⟩
abbrev S32x256 : Shape := ⟨2, ![32, 256]⟩
abbrev S256x32 : Shape := ⟨2, ![256, 32]⟩
abbrev S256x1x32 : Shape := ⟨3, ![256, 1, 32]⟩
abbrev S256x32x32 : Shape := ⟨3, ![256, 32, 32]⟩
abbrev S256x1024 : Shape := ⟨2, ![256, 1024]⟩
abbrev S256x32x1 : Shape := ⟨3, ![256, 32, 1]⟩
abbrev S1x256 : Shape := ⟨2, ![1, 256]⟩
abbrev S256 : Shape := ⟨1, ![256]⟩
abbrev S8x256 : Shape := ⟨2, ![8, 256]⟩
abbrev S1x512x1024 : Shape := ⟨3, ![1, 512, 1024]⟩
abbrev S8x512x1024 : Shape := ⟨3, ![8, 512, 1024]⟩
abbrev S8x512x32x32 : Shape := ⟨4, ![8, 512, 32, 32]⟩

abbrev nBuf : Space → Nat
  | .hbm => 9
  | .vmem => 5
  | .smem => 0
  | _ => 0

abbrev bufTy : (tb : Table) → Fin (tcTables nBuf tb) → BufTy
  | .hbm, ⟨0, _⟩ => ⟨S8x256x32x32, .f32⟩
  | .hbm, ⟨1, _⟩ => ⟨S60x256, .f32⟩
  | .hbm, ⟨2, _⟩ => ⟨S60x256, .f32⟩
  | .hbm, ⟨3, _⟩ => ⟨S60x256, .f32⟩
  | .hbm, ⟨4, _⟩ => ⟨S8x512, .f32⟩
  | .hbm, ⟨5, _⟩ => ⟨S512x1024, .f32⟩
  | .hbm, ⟨6, _⟩ => ⟨S1x512x1024, .f32⟩
  | .hbm, ⟨7, _⟩ => ⟨S8x512x1024, .f32⟩
  | .hbm, ⟨8, _⟩ => ⟨S8x512x32x32, .f32⟩
  | .local _ .vmem, ⟨0, _⟩ => ⟨S60x256, .f32⟩
  | .local _ .vmem, ⟨1, _⟩ => ⟨S60x256, .f32⟩
  | .local _ .vmem, ⟨2, _⟩ => ⟨S60x256, .f32⟩
  | .local _ .vmem, ⟨3, _⟩ => ⟨S8x512, .f32⟩
  | .local _ .vmem, ⟨4, _⟩ => ⟨S512x1024, .f32⟩
  | _, _ => ⟨S8x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S60x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S60x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S60x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S8x256x32x32 : Shape := ⟨4, ![8, 256, 32, 32]⟩
abbrev S60x256 : Shape := ⟨2, ![60, 256]⟩
abbrev S32 : Shape := ⟨1, ![32]⟩
abbrev S_ : Shape := ⟨0, ![]⟩
abbrev S1 : Shape := ⟨1, ![1]⟩
abbrev S32x1 : Shape := ⟨2, ![32, 1]⟩
abbrev S1x1 : Shape := ⟨2, ![1, 1]⟩
abbrev S32x256 : Shape := ⟨2, ![32, 256]⟩
abbrev S256 : Shape := ⟨1, ![256]⟩
abbrev S512 : Shape := ⟨1, ![512]⟩
abbrev S1x512 : Shape := ⟨2, ![1, 512]⟩
abbrev S1x1x1x512 : Shape := ⟨4, ![1, 1, 1, 512]⟩
abbrev S8x1x1x512 : Shape := ⟨4, ![8, 1, 1, 512]⟩
abbrev S8x512 : Shape := ⟨2, ![8, 512]⟩
abbrev S1x32x256 : Shape := ⟨3, ![1, 32, 256]⟩
abbrev S1x1x1x32x1x256 : Shape := ⟨6, ![1, 1, 1, 32, 1, 256]⟩
abbrev S32x1x1x32x1x256 : Shape := ⟨6, ![32, 1, 1, 32, 1, 256]⟩
abbrev S32x32x256 : Shape := ⟨3, ![32, 32, 256]⟩
abbrev S32x1x256 : Shape := ⟨3, ![32, 1, 256]⟩
abbrev S1x32x1x1x1x256 : Shape := ⟨6, ![1, 32, 1, 1, 1, 256]⟩
abbrev S1x32x32x1x1x256 : Shape := ⟨6, ![1, 32, 32, 1, 1, 256]⟩
abbrev S32x32x512 : Shape := ⟨3, ![32, 32, 512]⟩
abbrev S512x32x32 : Shape := ⟨3, ![512, 32, 32]⟩
abbrev S1x512x32x32 : Shape := ⟨4, ![1, 512, 32, 32]⟩
abbrev S1x1x1x512x1x32x1x32 : Shape := ⟨8, ![1, 1, 1, 512, 1, 32, 1, 32]⟩
abbrev S8x1x1x512x1x32x1x32 : Shape := ⟨8, ![8, 1, 1, 512, 1, 32, 1, 32]⟩
abbrev S8x512x32x32 : Shape := ⟨4, ![8, 512, 32, 32]⟩

abbrev nBuf : Space → Nat
  | .hbm => 100
  | .vmem => 0
  | .smem => 0
  | _ => 0

abbrev bufTy : (tb : Table) → Fin (tcTables nBuf tb) → BufTy
  | .hbm, ⟨0, _⟩ => ⟨S8x256x32x32, .f32⟩
  | .hbm, ⟨1, _⟩ => ⟨S60x256, .f32⟩
  | .hbm, ⟨2, _⟩ => ⟨S60x256, .f32⟩
  | .hbm, ⟨3, _⟩ => ⟨S60x256, .f32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S1, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S_, .i32⟩
  | .hbm, ⟨20, _⟩ => ⟨S32, .i32⟩
  | .hbm, ⟨21, _⟩ => ⟨S32, .i32⟩
  | .hbm, ⟨22, _⟩ => ⟨S32, .i32⟩
  | .hbm, ⟨23, _⟩ => ⟨S32x1, .i32⟩
  | .hbm, ⟨24, _⟩ => ⟨S1, .i32⟩
  | .hbm, ⟨25, _⟩ => ⟨S_, .i32⟩
  | .hbm, ⟨26, _⟩ => ⟨S32x1, .i32⟩
  | .hbm, ⟨27, _⟩ => ⟨S32x1, .i1⟩
  | .hbm, ⟨28, _⟩ => ⟨S1x1, .i32⟩
  | .hbm, ⟨29, _⟩ => ⟨S32x1, .i32⟩
  | .hbm, ⟨30, _⟩ => ⟨S32x1, .i1⟩
  | .hbm, ⟨31, _⟩ => ⟨S32x1, .i1⟩
  | .hbm, ⟨32, _⟩ => ⟨S_, .i1⟩
  | .hbm, ⟨33, _⟩ => ⟨S32, .i1⟩
  | .hbm, ⟨34, _⟩ => ⟨S32x256, .f32⟩
  | .hbm, ⟨35, _⟩ => ⟨S32x256, .i1⟩
  | .hbm, ⟨36, _⟩ => ⟨S_, .f32⟩
  | .hbm, ⟨37, _⟩ => ⟨S32x256, .f32⟩
  | .hbm, ⟨38, _⟩ => ⟨S32x256, .f32⟩
  | .hbm, ⟨39, _⟩ => ⟨S_, .i32⟩
  | .hbm, ⟨40, _⟩ => ⟨S32, .i32⟩
  | .hbm, ⟨41, _⟩ => ⟨S32, .i1⟩
  | .hbm, ⟨42, _⟩ => ⟨S_, .i32⟩
  | .hbm, ⟨43, _⟩ => ⟨S32, .i32⟩
  | .hbm, ⟨44, _⟩ => ⟨S32, .i32⟩
  | .hbm, ⟨45, _⟩ => ⟨S32, .i32⟩
  | .hbm, ⟨46, _⟩ => ⟨S32x1, .i32⟩
  | .hbm, ⟨47, _⟩ => ⟨S1, .i32⟩
  | .hbm, ⟨48, _⟩ => ⟨S_, .i32⟩
  | .hbm, ⟨49, _⟩ => ⟨S32x1, .i32⟩
  | .hbm, ⟨50, _⟩ => ⟨S32x1, .i1⟩
  | .hbm, ⟨51, _⟩ => ⟨S1x1, .i32⟩
  | .hbm, ⟨52, _⟩ => ⟨S32x1, .i32⟩
  | .hbm, ⟨53, _⟩ => ⟨S32x1, .i1⟩
  | .hbm, ⟨54, _⟩ => ⟨S32x1, .i1⟩
  | .hbm, ⟨55, _⟩ => ⟨S_, .i1⟩
  | .hbm, ⟨56, _⟩ => ⟨S32, .i1⟩
  | .hbm, ⟨57, _⟩ => ⟨S32x256, .f32⟩
  | .hbm, ⟨58, _⟩ => ⟨S32x256, .i1⟩
  | .hbm, ⟨59, _⟩ => ⟨S_, .f32⟩
  | .hbm, ⟨60, _⟩ => ⟨S32x256, .f32⟩
  | .hbm, ⟨61, _⟩ => ⟨S32x256, .f32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S1, .i32⟩
  | .hbm, ⟨68, _⟩ => ⟨S1, .i32⟩
  | .hbm, ⟨69, _⟩ => ⟨S_, .i32⟩
  | .hbm, ⟨70, _⟩ => ⟨S1, .i32⟩
  | .hbm, ⟨71, _⟩ => ⟨S1, .i1⟩
  | .hbm, ⟨72, _⟩ => ⟨S1, .i1⟩
  | .hbm, ⟨73, _⟩ => ⟨S1, .i1⟩
  | .hbm, ⟨74, _⟩ => ⟨S_, .i1⟩
  | .hbm, ⟨75, _⟩ => ⟨S_, .i1⟩
  | .hbm, ⟨76, _⟩ => ⟨S256, .f32⟩
  | .hbm, ⟨77, _⟩ => ⟨S256, .i1⟩
  | .hbm, ⟨78, _⟩ => ⟨S_, .f32⟩
  | .hbm, ⟨79, _⟩ => ⟨S256, .f32⟩
  | .hbm, ⟨80, _⟩ => ⟨S256, .f32⟩
  | .hbm, ⟨81, _⟩ => ⟨S512, .f32⟩
  | .hbm, ⟨82, _⟩ => ⟨S1x512, .f32⟩
  | .hbm, ⟨83, _⟩ => ⟨S1x1x1x512, .f32⟩
  | .hbm, ⟨84, _⟩ => ⟨S8x1x1x512, .f32⟩
  | .hbm, ⟨85, _⟩ => ⟨S8x512, .f32⟩
  | .hbm, ⟨86, _⟩ => ⟨S1x32x256, .f32⟩
  | .hbm, ⟨87, _⟩ => ⟨S1x1x1x32x1x256, .f32⟩
  | .hbm, ⟨88, _⟩ => ⟨S32x1x1x32x1x256, .f32⟩
  | .hbm, ⟨89, _⟩ => ⟨S32x32x256, .f32⟩
  | .hbm, ⟨90, _⟩ => ⟨S32x1x256, .f32⟩
  | .hbm, ⟨91, _⟩ => ⟨S1x32x1x1x1x256, .f32⟩
  | .hbm, ⟨92, _⟩ => ⟨S1x32x32x1x1x256, .f32⟩
  | .hbm, ⟨93, _⟩ => ⟨S32x32x256, .f32⟩
  | .hbm, ⟨94, _⟩ => ⟨S32x32x512, .f32⟩
  | .hbm, ⟨95, _⟩ => ⟨S512x32x32, .f32⟩
  | .hbm, ⟨96, _⟩ => ⟨S1x512x32x32, .f32⟩
  | .hbm, ⟨97, _⟩ => ⟨S1x1x1x512x1x32x1x32, .f32⟩
  | .hbm, ⟨98, _⟩ => ⟨S8x1x1x512x1x32x1x32, .f32⟩
  | .hbm, ⟨99, _⟩ => ⟨S8x512x32x32, .f32⟩
  | _, _ => ⟨S8x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v9 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v10 : Ref sig .tc := ⟨.hbm, 61, rfl⟩
abbrev main_call2_c : Ref sig .tc := ⟨.hbm, 62, rfl⟩
abbrev main_call2_v0 : Ref sig .tc := ⟨.hbm, 63, rfl⟩
abbrev main_call2_c_0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_c_1 : Ref sig .tc := ⟨.hbm, 68, rfl⟩
abbrev main_call2_c_2 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_c_3 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_cst : Ref sig .tc := ⟨.hbm, 78, rfl⟩
abbrev main_call2_v11 : Ref sig .tc := ⟨.hbm, 79, rfl⟩
abbrev main_v11 : Ref sig .tc := ⟨.hbm, 80, rfl⟩
abbrev main_v12 : Ref sig .tc := ⟨.hbm, 81, rfl⟩
abbrev main_v13 : Ref sig .tc := ⟨.hbm, 82, rfl⟩
abbrev main_v14 : Ref sig .tc := ⟨.hbm, 83, rfl⟩
abbrev main_v15 : Ref sig .tc := ⟨.hbm, 84, rfl⟩
abbrev main_v16 : Ref sig .tc := ⟨.hbm, 85, rfl⟩
abbrev main_v17 : Ref sig .tc := ⟨.hbm, 86, rfl⟩
abbrev main_v18 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_v23 : Ref sig .tc := ⟨.hbm, 92, rfl⟩
abbrev main_v24 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩

abbrev nD : Nat := 1
abbrev τ : Topo := Topo.v7x

variable {F : FTy → Type} [FloatOps F]
-- ==== Proof.Spec.lean ====
/-
  What the two results are, as plain functions of the three embedding tables.

  The tables `row`, `col` and `pose` have 60 rows of 256 entries. The first result (8×512) repeats row 0 of `pose`
  twice along the 512 columns, the same for each of the 8 batch elements. The second result (8×512×32×32) holds, at
  batch element b, channel d and grid position (y, x), entry d of row x + 1 of `col` in the first 256 channels, and entry
  d − 256 of row y + 1 of `row` in the last 256.
-/
module

public import Idealize.ShloMosaic.Lib.Pointwise

@[expose] public section

namespace Cert.Spec

open Idealize.ShloMosaic

variable {α : Type}

/-- The first result: column k holds entry k mod 256 of row 0 of `pose`, in every batch row. -/
def pEmb (pose : (⟨2, ![60, 256]⟩ : Shape).Idx → α) : (⟨2, ![8, 512]⟩ : Shape).Idx → α :=
  fun j => pose (ix2 0 ⟨(j 1).val % 256, Nat.mod_lt _ (by norm_num)⟩)

/-- One channel of the position grid, before it is repeated over the batch: a channel d below 256 holds entry d of row
    x + 1 of `col`, a channel from 256 on holds entry d − 256 of row y + 1 of `row`. -/
def cell (row col : (⟨2, ![60, 256]⟩ : Shape).Idx → α) (d : Fin 512) (y x : Fin 32) : α :=
  if h : d.val < 256 then col (ix2 ⟨x.val + 1, by omega⟩ ⟨d.val, h⟩)
  else row (ix2 ⟨y.val + 1, by omega⟩ ⟨d.val - 256, by omega⟩)

/-- The second result: the position grid, the same in every batch element. -/
def mEmb (row col : (⟨2, ![60, 256]⟩ : Shape).Idx → α) : (⟨4, ![8, 512, 32, 32]⟩ : Shape).Idx → α :=
  fun j => cell row col (j 1) (j 2) (j 3)

end Cert.Spec

end
-- ==== Proof.KernelBlock.lean ====
/-
  What one run of the kernel body leaves in its two output blocks, read at an index.
-/
module

public import proofs.«01_k».proof.Proof.Gen.KernelIdeal.Frame
public import proofs.«01_k».proof.Proof.Spec
public import Idealize.ShloMosaic.Lib.Pointwise
public import Idealize.ShloMosaic.Lib.Pipeline.Value
public import Idealize.ShloMosaic.Lib.Pipeline.ValueKit

@[expose] public section

noncomputable section

namespace Cert.KernelBlock

open Cert.KernelIdeal Cert.KernelIdeal.Gen Idealize.ShloMosaic

variable {F : FTy → Type} [FloatOps F]

/-- The piece stored in the first 256 rows: row d, column 32·y + x holds entry d of the loaded table row x. -/
theorem pay1_apply (v : Vec F S32x256 .f32) (d : Fin 256) (y x : Fin 32) :
    k0_pay1 v (ix2 d ⟨y.val * 32 + x.val, by omega⟩) = v (ix2 x d) := by
  unfold k0_pay1
  pointwise

/-- The piece stored in the last 256 rows: row d, column 32·y + x holds entry d of the loaded table row y. -/
theorem pay2_apply (v : Vec F S32x256 .f32) (d : Fin 256) (y x : Fin 32) :
    k0_pay2 v (ix2 d ⟨y.val * 32 + x.val, by omega⟩) = v (ix2 y d) := by
  unfold k0_pay2
  pointwise

/-- Either half of the first result's block: every row is the loaded table row. -/
theorem pay4_apply (v : Vec F S1x256 .f32) (j : S8x256.Idx) : k0_pay4 v j = v (ix2 0 (j 1)) := by
  unfold k0_pay4 k0_pay3
  pointwise

/-- The other half, stored the same way. -/
theorem pay5_apply (v : Vec F S1x256 .f32) (j : S8x256.Idx) : k0_pay5 v j = v (ix2 0 (j 1)) := by
  unfold k0_pay5 k0_pay3
  pointwise

/-- The 512×1024 block as a function of the two tables: its row is the channel, its column 32·y + x the grid position. -/
def mBlock {α : Type} (row col : S60x256.Idx → α) : S512x1024.Idx → α :=
  fun j => Spec.cell row col (j 0) ⟨(j 1).val / 32, by have := (j 1).isLt; change _ < 1024 at this; omega⟩
    ⟨(j 1).val % 32, Nat.mod_lt _ (by norm_num)⟩

/-- A column of the 512×1024 block is 32·y + x for its quotient y and remainder x by 32. -/
theorem col_split (k : Fin 1024) : k = ⟨(⟨k.val / 32, by omega⟩ : Fin 32).val * 32 + (⟨k.val % 32, by omega⟩ : Fin 32).val,
    by have := k.isLt; dsimp only; omega⟩ := Fin.ext (by dsimp only; omega)

/-- The first result's block: the two stored halves are the two copies of row 0 of `pose`. -/
theorem out_p (x0 x1 x2 : Vec F S60x256 .f32) : out0_3 x0 x1 x2 = Spec.pEmb x2 := by
  funext y
  unfold out0_3
  refine View.canon_apply_of_pieces _ _ (fun p hp => ?_) y (cover0_3 _ _ y)
  simp only [List.mem_cons, List.not_mem_nil, or_false] at hp
  rcases hp with rfl | rfl <;> intro x
  · have hx : (x 1).val < 256 := (x 1).isLt
    refine (pay5_apply (F := F) (View.ld x2 r0_3) x).trans ?_
    refine congrArg x2 (funext fun a => Fin.ext ?_)
    match a with
    | ⟨0, _⟩ => rfl
    | ⟨1, _⟩ => show 0 + 1 * (x 1).val = (256 + 1 * (x 1).val) % 256; omega
  · have hx : (x 1).val < 256 := (x 1).isLt
    refine (pay4_apply (F := F) (View.ld x2 r0_3) x).trans ?_
    refine congrArg x2 (funext fun a => Fin.ext ?_)
    match a with
    | ⟨0, _⟩ => rfl
    | ⟨1, _⟩ => show 0 + 1 * (x 1).val = (0 + 1 * (x 1).val) % 256; omega

/-- The second result's block: the first 256 rows come from `col`, the last 256 from `row`. -/
theorem out_m (x0 x1 x2 : Vec F S60x256 .f32) : out0_4 x0 x1 x2 = mBlock x0 x1 := by
  funext y
  unfold out0_4
  refine View.canon_apply_of_pieces _ _ (fun p hp => ?_) y (cover0_4 _ _ y)
  simp only [List.mem_cons, List.not_mem_nil, or_false] at hp
  rcases hp with rfl | rfl <;> intro x
  · have h0 : (x 0).val < 256 := (x 0).isLt
    have h1 : (x 1).val < 1024 := (x 1).isLt
    have e : x = ix2 (n0 := 256) (n1 := 1024) (x 0) ⟨(⟨(x 1).val / 32, by omega⟩ : Fin 32).val * 32
        + (⟨(x 1).val % 32, by omega⟩ : Fin 32).val, by dsimp only; omega⟩ := by
      rw [← col_split (x 1)]; exact eq_ix2 x
    refine (congrArg (k0_pay2 (F := F) (View.ld x0 r0_0)) e).trans ((pay2_apply (View.ld x0 r0_0) _ _ _).trans ?_)
    unfold mBlock Spec.cell
    refine Eq.trans ?_ (dif_neg (show ¬ 256 + 1 * (x 0).val < 256 by omega)).symm
    refine congrArg x0 (funext fun a => Fin.ext ?_)
    match a with
    | ⟨0, _⟩ => show 1 + 1 * ((x 1).val / 32) = (0 + 1 * (x 1).val) / 32 + 1; omega
    | ⟨1, _⟩ => show 0 + 1 * (x 0).val = 256 + 1 * (x 0).val - 256; omega
  · have h0 : (x 0).val < 256 := (x 0).isLt
    have h1 : (x 1).val < 1024 := (x 1).isLt
    have e : x = ix2 (n0 := 256) (n1 := 1024) (x 0) ⟨(⟨(x 1).val / 32, by omega⟩ : Fin 32).val * 32
        + (⟨(x 1).val % 32, by omega⟩ : Fin 32).val, by dsimp only; omega⟩ := by
      rw [← col_split (x 1)]; exact eq_ix2 x
    refine (congrArg (k0_pay1 (F := F) (View.ld x1 r0_0)) e).trans ((pay1_apply (View.ld x1 r0_0) _ _ _).trans ?_)
    unfold mBlock Spec.cell
    refine Eq.trans ?_ (dif_pos (show 0 + 1 * (x 0).val < 256 by omega)).symm
    refine congrArg x1 (funext fun a => Fin.ext ?_)
    match a with
    | ⟨0, _⟩ => show 1 + 1 * ((x 1).val % 32) = (0 + 1 * (x 1).val) % 32 + 1; omega
    | ⟨1, _⟩ => show 0 + 1 * (x 0).val = 0 + 1 * (x 0).val; rfl

end Cert.KernelBlock

end
-- ==== Proof.KernelValue.lean ====
/-
  What the kernel's program leaves in its two result arrays, on every device: the position arrays of Spec.lean, of
  the three tables it was given.
-/
module

public import proofs.«01_k».proof.Proof.KernelBlock
public import Idealize.ShloMosaic.Lib.StableHlo.Run

@[expose] public section

noncomputable section

namespace Cert.KernelValue

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The row table as device `c` was given it. -/
abbrev row (c : Dev nD) : S60x256.Idx → Elt F .f32 := m ((c.tc : Thread nD τ).loc main_arg1)
/-- The column table as device `c` was given it. -/
abbrev col (c : Dev nD) : S60x256.Idx → Elt F .f32 := m ((c.tc : Thread nD τ).loc main_arg2)
/-- The pose table as device `c` was given it. -/
abbrev pose (c : Dev nD) : S60x256.Idx → Elt F .f32 := m ((c.tc : Thread nD τ).loc main_arg3)

/-- The kernel reads each table whole: its one block is the table. -/
theorem blk_row (c : Dev nD) (t : Fin cfg0.N) : iblk m c 0 t = row m c := by
  rcases fin_N0 t with rfl
  funext x
  refine congrArg (row m c) (funext fun a => Fin.ext ?_)
  match a with
  | ⟨0, _⟩ => show 0 * 60 + 1 * (x 0).val = (x 0).val; omega
  | ⟨1, _⟩ => show 0 * 256 + 1 * (x 1).val = (x 1).val; omega
/-- The same for the column table. -/
theorem blk_col (c : Dev nD) (t : Fin cfg0.N) : iblk m c 1 t = col m c := by
  rcases fin_N0 t with rfl
  funext x
  refine congrArg (col m c) (funext fun a => Fin.ext ?_)
  match a with
  | ⟨0, _⟩ => show 0 * 60 + 1 * (x 0).val = (x 0).val; omega
  | ⟨1, _⟩ => show 0 * 256 + 1 * (x 1).val = (x 1).val; omega
/-- The same for the pose table. -/
theorem blk_pose (c : Dev nD) (t : Fin cfg0.N) : iblk m c 2 t = pose m c := by
  rcases fin_N0 t with rfl
  funext x
  refine congrArg (pose m c) (funext fun a => Fin.ext ?_)
  match a with
  | ⟨0, _⟩ => show 0 * 60 + 1 * (x 0).val = (x 0).val; omega
  | ⟨1, _⟩ => show 0 * 256 + 1 * (x 1).val = (x 1).val; omega

/-- The kernel's first output array ends at two copies of row 0 of the pose table in every batch row. -/
theorem arr_p (c : Dev nD) : (dats m 0 c).arrAt 3 cfg0.N = Spec.pEmb (pose m c) := by
  refine (dats m 0 c).arrAt_eq_of_covers 3 _ (by decide +kernel) fun t hf y => ?_
  blk_simp
  rw [after0_3, blk_row, blk_col, blk_pose, KernelBlock.out_p]
  rcases fin_N0 t with rfl
  refine congrArg (Spec.pEmb (pose m c)) (funext fun a => Fin.ext ?_)
  match a with
  | ⟨0, _⟩ => show (y 0).val = 0 * 8 + 1 * (y 0).val; omega
  | ⟨1, _⟩ => show (y 1).val = 0 * 512 + 1 * (y 1).val; omega

/-- The kernel's second output array ends at the 512×1024 position block. -/
theorem arr_m (c : Dev nD) : (dats m 0 c).arrAt 4 cfg0.N = KernelBlock.mBlock (row m c) (col m c) := by
  refine (dats m 0 c).arrAt_eq_of_covers 4 _ (by decide +kernel) fun t hf y => ?_
  blk_simp
  rw [after0_4, blk_row, blk_col, blk_pose, KernelBlock.out_m]
  rcases fin_N0 t with rfl
  refine congrArg (KernelBlock.mBlock (row m c) (col m c)) (funext fun a => Fin.ext ?_)
  match a with
  | ⟨0, _⟩ => show (y 0).val = 0 * 512 + 1 * (y 0).val; omega
  | ⟨1, _⟩ => show (y 1).val = 0 * 1024 + 1 * (y 1).val; omega

/-- Repeating the 512×1024 block over the batch and splitting its columns into the two grid coordinates gives the second
    result. -/
theorem spread (row col : S60x256.Idx → Elt F .f32) :
    shapeCast S8x512x32x32 (broadcastInDim S8x512x1024 ![0, 1, 2] bcast_S1x512x1024_S8x512x1024_0_1_2
      (broadcastInDim S1x512x1024 ![1, 2] bcast_S512x1024_S1x512x1024_1_2 (KernelBlock.mBlock row col)))
      shapeCasts_S8x512x1024_S8x512x32x32 = Spec.mEmb row col := by
  funext j
  pointwise
  have h : (j 3).val < 32 := (j 3).isLt
  unfold KernelBlock.mBlock Spec.mEmb
  have hy : ((j 2).val * 32 + (j 3).val) / 32 = (j 2).val := by omega
  have hx : ((j 2).val * 32 + (j 3).val) % 32 = (j 3).val := by omega
  exact congrArg₂ (Spec.cell row col (j 1)) (Fin.ext hy) (Fin.ext hx)

/-- The array the program returns second, after the host operations that follow the kernel. -/
theorem tail_m (c : Dev nD) :
    Pipeline.afterTail₀ cfgs (dats m) 0 (V0 m) [hostOps1] c main_v3 = Spec.mEmb (row m c) (col m c) := by
  unfold Pipeline.afterTail₀
  simp only [hostOps1, List.flatten_cons, List.flatten_nil, List.append_nil]
  after_results_simp
  rw [show Pipeline.withArrays (cfgs 0).spec c (V0 m c) (fun w => (dats m 0 c).arrAt w (cfgs 0).N) (Proc.tc.devRef main_v0_1)
      = KernelBlock.mBlock (row m c) (col m c) from
    (Pipeline.withArrays_arr (cfgs 0).spec (by exact (by decide : Function.Injective (Pipeline.arrRef spec0))) c _ _ 4).trans (arr_m m c)]
  exact spread _ _

/-- The whole run: both results, the four arguments unchanged. -/
theorem run : θ_run defs (onTc (τ := τ) (main (F := F))) ⟨m, fun _ => 0, ρ⟩ fun r => ∀ c : Dev nD,
    r.2.mem ((c.tc : Thread nD τ).loc main_v0_0) = Spec.pEmb (pose m c)
    ∧ r.2.mem ((c.tc : Thread nD τ).loc main_v3) = Spec.mEmb (row m c) (col m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨(h.1.out_eq c 3).trans (arr_p m c),
      (h.1.rest_eq c main_v3 (Pipeline.mem_restRefs_of main_v3 (by decide) (by decide))).trans (tail_m m c), h.2 c⟩)
    (θ_run_and (run_main m ρ) (unchanged m ρ))

end Cert.KernelValue

end
-- ==== Proof.Take.lean ====
/-
  The two gathers of the reference read at an index: a lookup of whole rows of a 60×256 table, once at a column of row
  numbers and once at a single row number.
-/
module

public import proofs.«01_k».proof.Proof.Gen.ReferenceIdeal
public import Idealize.ShloMosaic.Lib.Pointwise

@[expose] public section

noncomputable section

namespace Cert.Take

open Cert.ReferenceIdeal Cert.ReferenceIdeal.Gen Idealize.ShloMosaic

variable {α : Type}

/-- Looking up many rows: entry (r, k) of the result is entry k of the table row that the r-th row number names, read
    signed and clamped to the table. -/
theorem gather_rows_apply (x : S60x256.Idx → α) (idx : IVec S32x1 32) (y : S32x256.Idx) :
    Host.gather gather_S60x256_S32x1_S32x256_1_0_n_n_0_1_1256 x idx y
      = x (ix2 ⟨min (idx (ix2 (y 0) 0)).toInt.toNat 59, by omega⟩ (y 1)) := by
  unfold Host.gather
  refine congrArg x (funext fun a => Fin.ext ?_)
  change GatherDims.start _ y idx a + GatherDims.batchCoord _ y a + GatherDims.offCoord _ y a = _
  rw [GatherDims.batchCoord_eq_zero _ _ _ List.not_mem_nil]
  match a with
  | ⟨0, _⟩ =>
    rw [GatherDims.offCoord_eq_zero _ _ _ fun h => ((GatherDims.mem_sKept _ _).mp h).1 (List.mem_singleton.mpr rfl)]
    have e : GatherDims.siIdx gather_S60x256_S32x1_S32x256_1_0_n_n_0_1_1256 y ⟨0, by decide⟩ = ix2 (y 0) 0 := by
      funext b; match b with
      | ⟨0, _⟩ => rfl
      | ⟨1, _⟩ => rfl
    change min (idx (GatherDims.siIdx gather_S60x256_S32x1_S32x256_1_0_n_n_0_1_1256 y ⟨0, by decide⟩)).toInt.toNat 59 = _
    rw [e]; rfl
  | ⟨1, _⟩ => exact (Nat.zero_add _).trans rfl

/-- Looking up one row: entry k of the result is entry k of the table row that the one row number names, read signed and
    clamped to the table. -/
theorem gather_row_apply (x : S60x256.Idx → α) (idx : IVec S1 32) (y : S256.Idx) :
    Host.gather gather_S60x256_S1_S256_0_0_n_n_0_0_1256 x idx y
      = x (ix2 ⟨min (idx (ix1 0)).toInt.toNat 59, by omega⟩ (y 0)) := by
  unfold Host.gather
  refine congrArg x (funext fun a => Fin.ext ?_)
  change GatherDims.start _ y idx a + GatherDims.batchCoord _ y a + GatherDims.offCoord _ y a = _
  rw [GatherDims.batchCoord_eq_zero _ _ _ List.not_mem_nil]
  match a with
  | ⟨0, _⟩ =>
    rw [GatherDims.offCoord_eq_zero _ _ _ fun h => ((GatherDims.mem_sKept _ _).mp h).1 (List.mem_singleton.mpr rfl)]
    have e : GatherDims.siIdx gather_S60x256_S1_S256_0_0_n_n_0_0_1256 y ⟨0, by decide⟩ = ix1 0 := by
      funext b; match b with
      | ⟨0, _⟩ => rfl
    change min (idx (GatherDims.siIdx gather_S60x256_S1_S256_0_0_n_n_0_0_1256 y ⟨0, by decide⟩)).toInt.toNat 59 = _
    rw [e]; rfl
  | ⟨1, _⟩ => exact (Nat.zero_add _).trans rfl

end Cert.Take

end
-- ==== Proof.RefTake.lean ====
/-
  The reference's table lookups read at an index. The reference numbers the grid rows 1 … 32 and the pose row 0, adds 60 to
  a negative row number, looks the rows up, and puts a fixed filler where a row number is outside the table. All these
  row numbers are inside the table, so what it obtains is the table's rows themselves.
-/
module

public import proofs.«01_k».proof.Proof.Take
public import Idealize.ShloMosaic.Lib.Pointwise

@[expose] public section

noncomputable section

namespace Cert.RefTake

open Cert.ReferenceIdeal Cert.ReferenceIdeal.Gen Idealize.ShloMosaic

variable {α : Type}

/-- The 32 row numbers: r + 1 for each r. -/
def nums : IVec S32 32 := addi (iotaInDim S32 32 0) (broadcastInDim S32 ![] bcast_S_S32 (constantI S_ 32 1#32))

/-- The row numbers with 60 added to the negative ones, as a column. -/
def rows : IVec S32x1 32 :=
  broadcastInDim S32x1 ![0] bcast_S32_S32x1_0
    (select (cmpi .slt nums (broadcastInDim S32 ![] bcast_S_S32 (constantI S_ 32 0#32)))
      (addi nums (broadcastInDim S32 ![] bcast_S_S32 (constantI S_ 32 60#32))) nums)

/-- Which of the row numbers are inside the table. -/
def inside : IVec S32 1 :=
  Host.reduce IntOp.andi
    (andi (cmpi .sge rows (broadcastInDim S32x1 ![] bcast_S_S32x1 (constantI S_ 32 0#32)))
      (cmpi .sle rows (broadcastInDim S32x1 ![0, 1] bcast_S1x1_S32x1_0_1
        (broadcastInDim S1x1 ![1] bcast_S1_S1x1_1 (constantI S1 32 59#32)))))
    (constantI S_ 1 1#1) reducesTo_S32x1_S32_d1 h_S_

/-- The looked-up rows, the filler `f` where a row number is outside the table. -/
def taken (x : S60x256.Idx → α) (f : S32x256.Idx → α) : S32x256.Idx → α :=
  select (broadcastInDim S32x256 ![0] bcast_S32_S32x256_0 inside)
    (Host.gather gather_S60x256_S32x1_S32x256_1_0_n_n_0_1_1256 x rows) f

/-- The r-th row number is r + 1, inside the table. -/
theorem rows_toNat : ∀ r : Fin 32, min (rows (ix2 r 0)).toInt.toNat 59 = r.val + 1 := by
  intro r
  unfold rows nums
  pointwise
  revert r
  decide +kernel

/-- Every row number is inside the table. -/
theorem inside_apply (r : S32.Idx) : inside r = 1#1 := by
  unfold inside rows nums
  pointwise
  rw [show (Finset.univ : Finset (Fin 1)) = {0} from rfl, Finset.fold_singleton]
  generalize (r 0 : Fin 32) = q
  revert q
  decide +kernel

/-- The looked-up row r is the table's row r + 1, whatever the filler. -/
theorem taken_apply (x : S60x256.Idx → α) (f : S32x256.Idx → α) (r : Fin 32) (k : Fin 256) :
    taken x f (ix2 r k) = x (ix2 ⟨r.val + 1, by omega⟩ k) := by
  unfold taken
  rw [show ∀ (c : IVec S32x256 1) (a b : S32x256.Idx → α) (j : S32x256.Idx), c j = 1#1 → select c a b j = a j from
    fun c a b j h => by pointwise; rw [h]; rfl]
  · rw [Take.gather_rows_apply]
    refine congrArg x (funext fun a => Fin.ext ?_)
    match a with
    | ⟨0, _⟩ => exact rows_toNat r
    | ⟨1, _⟩ => rfl
  · exact inside_apply _

/-- The pose row's number: the first of the row numbers, less one. -/
def num : IVec S_ 32 :=
  subi (shapeCast _ (extractStridedSlice S1 ![0] nums slices_S32_S1_0) shapeCasts_S1_S_) (constantI S_ 32 1#32)

/-- The pose row's number with 60 added if it is negative. -/
def rowNum : IVec S1 32 :=
  broadcastInDim S1 ![] bcast_S_S1 (select (cmpi .slt num (constantI S_ 32 0#32)) (addi num (constantI S_ 32 60#32)) num)

/-- Whether the pose row's number is inside the table. -/
def insideOne : IVec S_ 1 :=
  Host.reduce IntOp.andi
    (andi (cmpi .sge rowNum (broadcastInDim S1 ![] bcast_S_S1 (constantI S_ 32 0#32))) (cmpi .sle rowNum (constantI S1 32 59#32)))
    (constantI S_ 1 1#1) reducesTo_S1_S_d0 h_S_

/-- The looked-up pose row, the filler `f` if its number were outside the table. -/
def takenOne (x : S60x256.Idx → α) (f : S256.Idx → α) : S256.Idx → α :=
  select (broadcastInDim S256 ![] bcast_S_S256 insideOne) (Host.gather gather_S60x256_S1_S256_0_0_n_n_0_0_1256 x rowNum) f

/-- The pose row's number is 0. -/
theorem rowNum_toNat : min (rowNum (ix1 0)).toInt.toNat 59 = 0 := by
  unfold rowNum num nums
  pointwise
  decide +kernel

/-- It is inside the table. -/
theorem insideOne_apply (r : S_.Idx) : insideOne r = 1#1 := by
  unfold insideOne rowNum num nums
  pointwise
  rw [show (Finset.univ : Finset (Fin 1)) = {0} from rfl, Finset.fold_singleton]
  decide +kernel

/-- The looked-up pose row is the table's row 0, whatever the filler. -/
theorem takenOne_apply (x : S60x256.Idx → α) (f : S256.Idx → α) (k : Fin 256) : takenOne x f (ix1 k) = x (ix2 0 k) := by
  unfold takenOne
  rw [show ∀ (c : IVec S256 1) (a b : S256.Idx → α) (j : S256.Idx), c j = 1#1 → select c a b j = a j from
    fun c a b j h => by pointwise; rw [h]; rfl]
  · rw [Take.gather_row_apply]
    refine congrArg x (funext fun a => Fin.ext ?_)
    match a with
    | ⟨0, _⟩ => exact rowNum_toNat
    | ⟨1, _⟩ => rfl
  · exact insideOne_apply _

end Cert.RefTake

end
-- ==== Proof.RefValue.lean ====
/-
  What the reference computes: its two results are the position arrays of Spec.lean, of the three tables it was given.
-/
module

public import proofs.«01_k».proof.Proof.Gen.ReferenceIdeal.Run
public import proofs.«01_k».proof.Proof.RefTake
public import proofs.«01_k».proof.Proof.Spec

@[expose] public section

noncomputable section

namespace Cert.RefValue

open Cert.ReferenceIdeal Cert.ReferenceIdeal.Gen Idealize.ShloMosaic Idealize.ShloMosaic.TcCoe Idealize.SL.Sem

variable {F : FTy → Type} [FloatOps F]

section Arrange

variable {α : Type}

/-- Two copies of a 256-entry row side by side, repeated over the batch. -/
def arrangeP (p : S256.Idx → α) : S8x512.Idx → α :=
  shapeCast _ (broadcastInDim S8x1x1x512 ![0, 1, 2, 3] bcast_S1x1x1x512_S8x1x1x512_0_1_2_3
    (shapeCast _ (broadcastInDim S1x512 ![1] bcast_S512_S1x512_1
      (concatenate S512 0 [⟨S256, p⟩, ⟨S256, p⟩] concatenates_S256_S256_S512_d0))
      shapeCasts_S1x512_S1x1x1x512)) shapeCasts_S8x1x1x512_S8x512

/-- The grid of looked-up column rows `c` (repeated over y) beside the looked-up rows `r` (repeated over x), channels moved
    to the front, repeated over the batch. -/
def arrangeM (c r : S32x256.Idx → α) : S8x512x32x32.Idx → α :=
  shapeCast _ (broadcastInDim S8x1x1x512x1x32x1x32 ![0, 1, 2, 3, 4, 5, 6, 7]
      bcast_S1x1x1x512x1x32x1x32_S8x1x1x512x1x32x1x32_0_1_2_3_4_5_6_7
    (shapeCast _ (broadcastInDim S1x512x32x32 ![1, 2, 3] bcast_S512x32x32_S1x512x32x32_1_2_3
      (transpose S512x32x32 [2, 0, 1]
        (concatenate S32x32x512 2
          [⟨S32x32x256, (shapeCast _ (broadcastInDim S32x1x1x32x1x256 ![0, 1, 2, 3, 4, 5]
              bcast_S1x1x1x32x1x256_S32x1x1x32x1x256_0_1_2_3_4_5
            (shapeCast _ (broadcastInDim S1x32x256 ![1, 2] bcast_S32x256_S1x32x256_1_2 c)
              shapeCasts_S1x32x256_S1x1x1x32x1x256)) shapeCasts_S32x1x1x32x1x256_S32x32x256)⟩,
           ⟨S32x32x256, (shapeCast _ (broadcastInDim S1x32x32x1x1x256 ![0, 1, 2, 3, 4, 5]
              bcast_S1x32x1x1x1x256_S1x32x32x1x1x256_0_1_2_3_4_5
            (shapeCast _ (broadcastInDim S32x1x256 ![0, 2] bcast_S32x256_S32x1x256_0_2 r)
              shapeCasts_S32x1x256_S1x32x1x1x1x256)) shapeCasts_S1x32x32x1x1x256_S32x32x256)⟩]
          concatenates_S32x32x256_S32x32x256_S32x32x512_d2)
        transposes_S32x32x512_S512x32x32_2_0_1))
      shapeCasts_S1x512x32x32_S1x1x1x512x1x32x1x32)) shapeCasts_S8x1x1x512x1x32x1x32_S8x512x32x32

/-- Read at an index, the first arrangement is the row at the column mod 256. -/
theorem arrangeP_apply (p : S256.Idx → α) (j : S8x512.Idx) :
    arrangeP p j = p (ix1 ⟨(j 1).val % 256, Nat.mod_lt _ (by norm_num)⟩) := by
  unfold arrangeP
  pointwise
  have hj : (j 1).val < 512 := (j 1).isLt
  split
  · exact congrArg p (congrArg ix1 (Fin.ext (by dsimp only; omega)))
  · exact congrArg p (congrArg ix1 (Fin.ext (by dsimp only; omega)))

/-- Read at an index, the second arrangement is row x of `c` in the first 256 channels and row y of `r` in the last. -/
theorem arrangeM_apply (c r : S32x256.Idx → α) (b : Fin 8) (d : Fin 512) (y x : Fin 32) :
    arrangeM c r (ix4 b d y x)
      = if h : d.val < 256 then c (ix2 x ⟨d.val, h⟩) else r (ix2 y ⟨d.val - 256, by omega⟩) := by
  unfold arrangeM
  pointwise

end Arrange

variable (m : (ℓ : Loc nD τ sig) → Buf (Elt F) ℓ) (ρ : Dev nD → PrngReg)

/-- The reference's first result is two copies of row 0 of the pose table in every batch row. -/
theorem res_p (c : Dev nD) : Value.res_out0 m c
    = Spec.pEmb (α := Elt F .f32) (m ((c.tc : Thread nD τ).loc main_arg3)) := by
  have e : Value.res_out0 m c = arrangeP (RefTake.takenOne (α := Elt F .f32) (m ((c.tc : Thread nD τ).loc main_arg3))
      (broadcastInDim S256 ![] bcast_S_S256 (constant S_ .f32 0x7FC00000#32))) := rfl
  rw [e]
  funext j
  exact (arrangeP_apply _ j).trans (RefTake.takenOne_apply _ _ _)

/-- The reference's second result is the position grid in every batch element. -/
theorem res_m (c : Dev nD) : Value.res_out1 m c
    = Spec.mEmb (α := Elt F .f32) (m ((c.tc : Thread nD τ).loc main_arg1)) (m ((c.tc : Thread nD τ).loc main_arg2)) := by
  have e : Value.res_out1 m c = arrangeM
      (RefTake.taken (α := Elt F .f32) (m ((c.tc : Thread nD τ).loc main_arg2))
        (broadcastInDim S32x256 ![] bcast_S_S32x256 (constant S_ .f32 0x7FC00000#32)))
      (RefTake.taken (α := Elt F .f32) (m ((c.tc : Thread nD τ).loc main_arg1))
        (broadcastInDim S32x256 ![] bcast_S_S32x256 (constant S_ .f32 0x7FC00000#32))) := rfl
  rw [e]
  funext j
  refine (congrArg _ (eq_ix4 j)).trans ((arrangeM_apply _ _ (j 0) (j 1) (j 2) (j 3)).trans ?_)
  unfold Spec.mEmb Spec.cell
  exact dite_congr rfl (fun h => RefTake.taken_apply _ _ _ _) (fun h => RefTake.taken_apply _ _ _ _)

end Cert.RefValue

end
-- ==== Proof.lean ====
/-
  The claims, assembled. The three programs run and leave their arguments alone (the frames); the kernel was changed
  nowhere, so it is preserved as it is; and over the extended reals the kernel's two results are the reference's two
  results, since both are the position arrays of Proof/Spec.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel as written terminates, leaves its arguments as they were and every semaphore counter at zero. -/
theorem frame_kernel : Cert.quiescent_Kernel := fun m ρ _ => Cert.Kernel.Gen.frame m ρ

/-- The same of the kernel over the extended reals. -/
theorem frame_kernelIdeal : Cert.quiescent_KernelIdeal := fun m ρ _ => Cert.KernelIdeal.Gen.frame m ρ

/-- The same of the reference over the extended reals; it has no semaphore. -/
theorem frame_referenceIdeal : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- Over the extended reals, from the same arguments, the kernel and the reference end with the same two arrays: both
    are the position arrays of Spec.lean, of the three tables. -/
theorem same_results : Cert.algebraic_KernelIdeal_ReferenceIdeal := by
  intro m ρ m' ρ' _ hagree
  refine ⟨fun c => Spec.pEmb (KernelValue.pose m c), fun c => Spec.mEmb (KernelValue.row m c) (KernelValue.col m c),
    KernelValue.run m ρ, (θ_run Cert.ReferenceIdeal.defs _ _).mono (fun r h c => ?_)
      (Cert.ReferenceIdeal.Value.run (F := Ideal) m' ρ')⟩
  obtain ⟨hp, hm, hargs⟩ := h c
  obtain ⟨_, h1, h2, h3⟩ := hagree c
  refine ⟨hp.trans ((RefValue.res_p m' c).trans ?_), hm.trans ((RefValue.res_m m' c).trans ?_), hargs⟩
  · exact congrArg (Spec.pEmb (α := Elt Ideal .f32)) h3
  · exact congrArg₂ (Spec.mEmb (α := Elt Ideal .f32)) h1 h2

/-- Every claim of this certificate. -/
theorem claim : Cert.Claim :=
  ⟨Cert.Kernel.Gen.facts, Cert.KernelIdeal.Gen.facts, Cert.ReferenceIdeal.Gen.facts,
    frame_kernel, frame_kernelIdeal, frame_referenceIdeal, trivial, same_results⟩

end Cert.Proof

end
